-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_inf [hPre_below_inf : Cert.Pre_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf [hPre_below_inf : Cert.Pre_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_inf [hKernelIdeal : Cert.KernelIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_inf [hReferenceIdeal : Cert.ReferenceIdeal.Facts] [hPre_below_inf : Cert.Pre_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_inf [hKernelIdeal : Cert.KernelIdeal.Facts] [hReferenceIdeal : Cert.ReferenceIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_inf : Cert.Pre_below_inf.Facts),
    quiescent_Kernel (hKernel := hKernel)
    ∧ quiescent_KernelIdeal (hKernelIdeal := hKernelIdeal)
    ∧ quiescent_KernelIdeal_pre_below_inf (hKernelIdeal := hKernelIdeal) (hPre_below_inf := hPre_below_inf)
    ∧ quiescent_ReferenceIdeal (hReferenceIdeal := hReferenceIdeal)
    ∧ quiescent_ReferenceIdeal_pre_below_inf (hReferenceIdeal := hReferenceIdeal) (hPre_below_inf := hPre_below_inf)
    ∧ preserves_Kernel_KernelIdeal
    ∧ algebraic_KernelIdeal_ReferenceIdeal_pre_below_inf (hKernelIdeal := hKernelIdeal) (hReferenceIdeal := hReferenceIdeal) (hPre_below_inf := hPre_below_inf)
-- ==== Pre_below_inf.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)

variable [Facts]

def fn {F : FTy → Type} [FloatOps F] (main_arg0 : FVec F S4x4096x2048 .f32) : IVec S4x4096x2048 1 :=
  let main_cst : FVec F S_ .f32 := constant S_ .f32 0x7F800000#32
  let main_v0 : FVec F S4x4096x2048 .f32 := broadcastInDim S4x4096x2048 ![] bcast_S_S4x4096x2048 main_cst
  let main_v1 : IVec S4x4096x2048 1 := cmpf .olt main_arg0 main_v0
  main_v1
-- ==== Kernel.lean ====
abbrev S4x4096x2048 : Shape := ⟨3, ![4, 4096, 2048]⟩
abbrev S1x4096x256 : Shape := ⟨3, ![1, 4096, 256]⟩
abbrev S4096x256 : Shape := ⟨2, ![4096, 256]⟩
abbrev S128x128 : Shape := ⟨2, ![128, 128]⟩
abbrev S1x256 : Shape := ⟨2, ![1, 256]⟩
abbrev S128x256 : Shape := ⟨2, ![128, 256]⟩
abbrev S1x128x256 : Shape := ⟨3, ![1, 128, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x4096x2048 : Shape := ⟨3, ![4, 4096, 2048]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S_, .f32⟩
  | .hbm, ⟨3, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Chunk.lean ====
/- What the kernel's operations compute on one block of 4096 rows and 256 columns, at the extended reals: the sum of one
   chunk of 128 rows (the triangular matrix times the chunk, in two parts), the running row carried from chunk to chunk,
   and the stored piece. Each is stated once, for a chunk starting at any row. -/
module

public import proofs.«01_k».proof.Proof.Gen.KernelIdeal.Skeleton
public import Idealize.ShloMosaic.Lib.Pointwise

@[expose] public section

set_option maxRecDepth 16384

noncomputable section

namespace Cert.KernelIdeal.Cumsum

open Idealize.ShloMosaic Cert.KernelIdeal Cert.KernelIdeal.Gen

/-- Column `c` of a block, continued by zeros after its last row. -/
def col (x : FVec Ideal S1x4096x256 .f32) (c : Fin 256) (i : ℕ) : EReal :=
  if h : i < 4096 then x (ix3 0 ⟨i, h⟩ c) else 0

/-- The sum of the first `n` rows of column `c`. -/
def below (x : FVec Ideal S1x4096x256 .f32) (n : ℕ) (c : Fin 256) : EReal :=
  ∑ i ∈ Finset.range n, col x c i

/-- The row carried into the chunk that starts at row `off`: the column sums of all rows before it. -/
def carried (x : FVec Ideal S1x4096x256 .f32) (off : ℕ) : FVec Ideal S1x256 .f32 :=
  fun j => below x off (j 1)

/-- The running sums inside the chunk that starts at row `off`. -/
def inside (x : FVec Ideal S1x4096x256 .f32) (off : ℕ) : FVec Ideal S128x256 .f32 :=
  fun j => ∑ i ∈ Finset.range ((j 0 : ℕ) + 1), col x (j 1) (off + i)

/-- The running sums of the whole column, at the rows of the chunk that starts at row `off`. -/
def stored (x : FVec Ideal S1x4096x256 .f32) (off : ℕ) : FVec Ideal S1x128x256 .f32 :=
  fun j => below x (off + (j 1 : ℕ) + 1) (j 2)

/-- An extended real other than `⊤` is the sum of itself and its difference with itself. -/
theorem add_sub_self_of_ne_top {a : EReal} (h : a ≠ ⊤) : a + (a - a) = a := by
  induction a using EReal.rec with
  | bot => simp
  | coe r => rw [← EReal.coe_sub]; simp
  | top => exact absurd rfl h

/-- Summing a triangular selection of 128 numbers is summing the first `r + 1` of them. -/
theorem sum_triangle (f : ℕ → EReal) (r : Fin 128) :
    (∑ k : Fin 128, if (k : ℕ) ≤ r then f k else 0) = ∑ i ∈ Finset.range ((r : ℕ) + 1), f i := by
  rw [Fin.sum_univ_eq_sum_range (fun k => if k ≤ (r : ℕ) then f k else 0) 128, ← Finset.sum_filter]
  refine Finset.sum_congr ?_ fun _ _ => rfl
  ext k
  simp only [Finset.mem_filter, Finset.mem_range]
  omega

/-- The triangular matrix: one on and below the diagonal, zero above it. -/
theorem triangle_apply (r k : Fin 128) :
    k0_pay2 (F := Ideal) (ix2 r k) = (if (k : ℕ) ≤ r then 1 else 0 : EReal) := by
  pointwise [k0_pay2]
  have hbit : ∀ r k : Fin 128, IntOp.cmpi .sge (BitVec.ofNat 32 r) (BitVec.ofNat 32 k) = if (k : ℕ) ≤ r then 1#1 else 0#1 := by
    decide +kernel
  rw [hbit]
  split
  · show (((BitVec.setWidth 32 1#1).toInt : ℝ) : EReal) = 1
    norm_num [show (BitVec.setWidth 32 1#1).toInt = 1 by decide]
  · show (((BitVec.setWidth 32 0#1).toInt : ℝ) : EReal) = 0
    norm_num [show (BitVec.setWidth 32 0#1).toInt = 0 by decide]

/-- The block's first part (its value read at a narrower format, which at the extended reals is the value itself). -/
theorem high_apply (x : FVec Ideal S1x4096x256 .f32) (i : Fin 4096) (c : Fin 256) :
    k0_pay3 x (ix2 i c) = x (ix3 0 i c) := by
  pointwise [k0_pay3, k0_pay1]

/-- The block's second part: what the first part leaves of the value. -/
theorem low_apply (x : FVec Ideal S1x4096x256 .f32) (i : Fin 4096) (c : Fin 256) :
    k0_pay4 x (ix2 i c) = x (ix3 0 i c) - x (ix3 0 i c) := by
  pointwise [k0_pay4, k0_pay3, k0_pay1]

/-- The triangular matrix times both parts of a chunk, added: the running sums inside the chunk, when no element of the block
    is `⊤` (so that the two parts add up to the element). -/
theorem chunk_eq (x : FVec Ideal S1x4096x256 .f32) (off : ℕ) (hx : ∀ i, x i ≠ ⊤)
    (h : S4096x256.Slices ![off, 0] S128x256) (h' : S4096x256.Slices ![off, 0] S128x256) :
    addf (matmul dot_S128x128_S128x256_S128x256_1_0_0_1_n_n none (k0_pay2 (F := Ideal))
          (extractStridedSlice S128x256 ![off, 0] (k0_pay3 x) h) (constant S128x256 .f32 0x00000000#32))
        (matmul dot_S128x128_S128x256_S128x256_1_0_0_1_n_n none (k0_pay2 (F := Ideal))
          (extractStridedSlice S128x256 ![off, 0] (k0_pay4 x) h') (constant S128x256 .f32 0x00000000#32))
      = inside x off := by
  funext j
  idx_vars j
  pointwise [inside]
  rw [← Finset.sum_add_distrib, ← sum_triangle (fun i => col x j1 (off + i)) j0]
  refine Finset.sum_congr rfl fun k _ => ?_
  generalize_proofs hk
  rw [triangle_apply, high_apply, low_apply]
  split
  · rw [one_mul, one_mul, add_sub_self_of_ne_top (hx _), col, dif_pos hk]
  · rw [zero_mul, zero_mul, add_zero]

/-- The carried row plus the last row of the chunk's running sums is the row carried into the next chunk. -/
theorem carry_eq (x : FVec Ideal S1x4096x256 .f32) (off : ℕ) (h : S128x256.Slices ![127, 0] S1x256) :
    addf (carried x off) (extractStridedSlice S1x256 ![127, 0] (inside x off) h) = carried x (off + 128) := by
  funext j
  idx_vars j
  pointwise [carried, inside]
  rw [below, below, Finset.sum_range_add]

/-- The chunk's running sums plus the carried row on every row: the running sums of the whole column. -/
theorem stored_eq (x : FVec Ideal S1x4096x256 .f32) (off : ℕ) (h : S1x256.Broadcasts S128x256) (h' : S128x256.ShapeCasts S1x128x256) :
    shapeCast S1x128x256 (addf (inside x off) (broadcastTo S128x256 (carried x off) h)) h' = stored x off := by
  funext j
  idx_vars j
  pointwise [carried, inside, stored]
  rw [below, below, add_assoc off, add_comm, ← Finset.sum_range_add]

/-- The first carried row is zero, the sum of no rows. -/
theorem zero_eq (x : FVec Ideal S1x4096x256 .f32) : k0_pay5 (F := Ideal) = carried x 0 := by
  funext j
  idx_vars j
  pointwise [carried, k0_pay5, below]
  rw [Finset.sum_range_zero]

end Cert.KernelIdeal.Cumsum

end
-- ==== Proof.Block.lean ====
/- What the kernel writes for one block of 4096 rows and 256 columns, at the extended reals: the running sums of the block's
   columns, when no element of the block is `⊤`. -/
module

public import proofs.«01_k».proof.Proof.Chunk
public import proofs.«01_k».proof.Proof.Gen.KernelIdeal.Frame
public import Idealize.ShloMosaic.Lib.Pipeline.ValueKit

@[expose] public section

set_option maxRecDepth 16384

noncomputable section

namespace Cert.KernelIdeal.Cumsum

open Idealize.ShloMosaic Cert.KernelIdeal Cert.KernelIdeal.Gen

/-- Loading the whole block is the block. -/
theorem load_whole (x : Vec Ideal S1x4096x256 .f32) : View.ld x r0_0 = x := by
  unfold r0_0
  exact View.ld_unit_zero (S := S1x4096x256) (funext fun a => by fin_cases a <;> rfl) _ x

/-- The block the kernel writes, piece by piece: chunk after chunk, the stored running sums. -/
theorem pieces_eq (x : Vec Ideal S1x4096x256 .f32) (hx : ∀ i, x i ≠ ⊤) :
    out0_1 x = View.canon [⟨r0_32, stored x 3968⟩, ⟨r0_31, stored x 3840⟩, ⟨r0_30, stored x 3712⟩, ⟨r0_29, stored x 3584⟩,
      ⟨r0_28, stored x 3456⟩, ⟨r0_27, stored x 3328⟩, ⟨r0_26, stored x 3200⟩, ⟨r0_25, stored x 3072⟩,
      ⟨r0_24, stored x 2944⟩, ⟨r0_23, stored x 2816⟩, ⟨r0_22, stored x 2688⟩, ⟨r0_21, stored x 2560⟩,
      ⟨r0_20, stored x 2432⟩, ⟨r0_19, stored x 2304⟩, ⟨r0_18, stored x 2176⟩, ⟨r0_17, stored x 2048⟩,
      ⟨r0_16, stored x 1920⟩, ⟨r0_15, stored x 1792⟩, ⟨r0_14, stored x 1664⟩, ⟨r0_13, stored x 1536⟩,
      ⟨r0_12, stored x 1408⟩, ⟨r0_11, stored x 1280⟩, ⟨r0_10, stored x 1152⟩, ⟨r0_9, stored x 1024⟩,
      ⟨r0_8, stored x 896⟩, ⟨r0_7, stored x 768⟩, ⟨r0_6, stored x 640⟩, ⟨r0_5, stored x 512⟩,
      ⟨r0_4, stored x 384⟩, ⟨r0_3, stored x 256⟩, ⟨r0_2, stored x 128⟩, ⟨r0_1, stored x 0⟩] := by
  simp only [out0_1, load_whole, zero_eq x, fun off => chunk_eq x off hx, carry_eq, stored_eq, Nat.reduceAdd,
    k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125]

/-- The block the kernel writes holds, at row `i`, the sum of rows `0 … i` of the same column. -/
theorem block_eq (x : Vec Ideal S1x4096x256 .f32) (hx : ∀ i, x i ≠ ⊤) (y : S1x4096x256.Idx) :
    out0_1 x y = below x ((y 1 : ℕ) + 1) (y 2) := by
  rw [pieces_eq x hx]
  canon_tiles z h
  all_goals
    simp only [stored, h1, show y 2 = z 2 from Fin.ext h2, Nat.zero_add]

end Cert.KernelIdeal.Cumsum

end
-- ==== Proof.RefValue.lean ====
/- What the reference computes, at the extended reals: `jnp.cumsum` along the second axis, printed as a sum over a window of
   4096 rows on an array padded by 4095 zero rows below, is the sum of the rows up to and including one's own. -/
module

public import proofs.«01_k».proof.Proof.Gen.ReferenceIdeal.Run
public import Idealize.ShloMosaic.Lib.Pointwise

@[expose] public section

set_option maxRecDepth 16384

noncomputable section

namespace Cert.Cumsum

open Idealize.ShloMosaic

/-- Column `(b, d)` of an array of four batches, 4096 rows and 2048 columns, continued by zeros after its last row. -/
def column (x : FVec Ideal ⟨3, ![4, 4096, 2048]⟩ .f32) (b : Fin 4) (d : Fin 2048) (i : ℕ) : EReal :=
  if h : i < 4096 then x (ix3 b ⟨i, h⟩ d) else 0

/-- The cumulative sum along the rows: at row `i`, the sum of rows `0 … i` of the same column. -/
def runningSum (x : FVec Ideal ⟨3, ![4, 4096, 2048]⟩ .f32) : FVec Ideal ⟨3, ![4, 4096, 2048]⟩ .f32 :=
  fun j => ∑ i ∈ Finset.range ((j 1 : ℕ) + 1), column x (j 0) (j 2) i

/-- A left fold that adds `g n` at every step adds the sum of all `g n`. -/
theorem foldl_add_eq {ι : Type} (g : ι → EReal) (l : List ι) (v : EReal) :
    l.foldl (fun r n => r + g n) v = v + (l.map g).sum := by
  induction l generalizing v with
  | nil => simp
  | cons n l ih => rw [List.foldl_cons, ih, List.map_cons, List.sum_cons, add_assoc]

/-- A fold over a shape's row-major numbering that adds `g n` at every step adds the sum of `g` over the shape's indices. -/
theorem foldl_rowMajor (W : Shape) (g : Fin W.numel → EReal) (v : EReal) :
    (List.finRange W.numel).foldl (fun r n => r + g n) v = v + ∑ w : W.Idx, g (W.rowMajor w) := by
  rw [foldl_add_eq g, ← List.ofFn_eq_map, List.sum_ofFn, Equiv.sum_comp W.rowMajor g]

/-- A window of `n + 1` rows ending at row `i` of an array with zeros before it sums rows `0 … i`. -/
theorem sum_padded (f : ℕ → EReal) (n i : ℕ) (hi : i ≤ n) :
    (∑ k : Fin (n + 1), if n ≤ i + (k : ℕ) then f (i + k - n) else 0) = ∑ m ∈ Finset.range (i + 1), f m := by
  rw [Fin.sum_univ_eq_sum_range (fun k => if n ≤ i + k then f (i + k - n) else 0) (n + 1),
    show n + 1 = (n - i) + (i + 1) by omega, Finset.sum_range_add,
    Finset.sum_eq_zero (fun k hk => if_neg (by have := Finset.mem_range.1 hk; omega)), zero_add]
  refine Finset.sum_congr rfl fun m _ => ?_
  rw [if_pos (by omega)]
  congr 1
  omega

/-- A sum over the window `1 × N × 1` is a sum over its rows. -/
theorem sum_window_rows {N : ℕ} (g : (⟨3, ![1, N, 1]⟩ : Shape).Idx → EReal) :
    ∑ w, g w = ∑ k : Fin N, g (ix3 0 k 0) := by
  rw [sum_idx3]
  simp only [Fin.sum_univ_one]

/-- A window sum over `n + 1` rows, the array padded by `n` zero rows before its first, is the sum of rows `0 … i`. -/
theorem window_sum {B n N D : ℕ} (hN : n + 1 = N) (x : FVec Ideal ⟨3, ![B, N, D]⟩ .f32) (init : FVec Ideal ⟨0, ![]⟩ .f32) (hv : ∀ a, init a = 0)
    (h : (⟨3, ![B, N, D]⟩ : Shape).ReduceWindows ![1, N, 1] ![1, 1, 1] ![0, n, 0] ![0, 0, 0] ⟨3, ![B, N, D]⟩)
    (hu : 0 < (⟨0, ![]⟩ : Shape).numel) (b : Fin B) (i : Fin N) (d : Fin D) :
    Host.reduceWindowAdd ![1, N, 1] ![1, 1, 1] ![0, n, 0] ![0, 0, 0] x init h hu (ix3 b i d)
      = ∑ k ∈ Finset.range ((i : ℕ) + 1), if hk : k < N then x (ix3 b ⟨k, hk⟩ d) else 0 := by
  subst hN
  show Ideal.hostReduceWindowAdd ![1, n + 1, 1] ![1, 1, 1] ![0, n, 0] ![0, 0, 0] h x (init (Shape.Idx.first hu)) (ix3 b i d) = _
  rw [hv]
  rw [← sum_padded (fun k => if hk : k < n + 1 then x (ix3 b ⟨k, hk⟩ d) else 0) n i (Nat.le_of_lt_succ i.isLt)]
  unfold Ideal.hostReduceWindowAdd Host.reduceWindow
  dsimp only
  rw [foldl_rowMajor, zero_add, sum_window_rows]
  simp only [Equiv.symm_apply_apply]
  refine Finset.sum_congr rfl fun k _ => ?_
  have hi := i.isLt
  have hk := k.isLt
  split
  · next hin =>
    have h1 : n ≤ (i : ℕ) * 1 + (k : ℕ) := (hin 1).1
    rw [if_pos (by omega), dif_pos (by omega)]
    refine congrArg x (funext fun a => Fin.ext ?_)
    match a with
    | ⟨0, _⟩ => show (b : ℕ) * 1 + 0 - 0 = b; omega
    | ⟨1, _⟩ => show (i : ℕ) * 1 + (k : ℕ) - n = (i : ℕ) + k - n; omega
    | ⟨2, _⟩ => show (d : ℕ) * 1 + 0 - 0 = d; omega
  · next hin =>
    rw [if_neg]
    intro hle
    refine hin fun a => ?_
    match a with
    | ⟨0, _⟩ => show 0 ≤ (b : ℕ) * 1 + 0 ∧ (b : ℕ) * 1 + 0 - 0 < B; have := b.isLt; omega
    | ⟨1, _⟩ => show n ≤ (i : ℕ) * 1 + (k : ℕ) ∧ (i : ℕ) * 1 + (k : ℕ) - n < n + 1; omega
    | ⟨2, _⟩ => show 0 ≤ (d : ℕ) * 1 + 0 ∧ (d : ℕ) * 1 + 0 - 0 < D; have := d.isLt; omega

/-- The reference's result is the cumulative sum of its argument. -/
theorem reference_eq (x : FVec Ideal Cert.ReferenceIdeal.S4x4096x2048 .f32) :
    Host.reduceWindowAdd ![1, 4096, 1] ![1, 1, 1] ![0, 4095, 0] ![0, 0, 0] x
        (broadcastInDim Cert.ReferenceIdeal.S_ ![] Cert.ReferenceIdeal.Facts₀.bcast_S_S_ (constant Cert.ReferenceIdeal.S_ .f32 0x00000000#32))
        Cert.ReferenceIdeal.Facts₀.reduceWindows_S4x4096x2048_S4x4096x2048_w1s1p0_0_w4096s1p4095_0_w1s1p0_0 Cert.ReferenceIdeal.Facts₀.h_S_
      = runningSum x := by
  funext j
  idx_vars j
  have hz : ∀ a, broadcastInDim Cert.ReferenceIdeal.S_ ![] Cert.ReferenceIdeal.Facts₀.bcast_S_S_
      (constant (F := Ideal) Cert.ReferenceIdeal.S_ .f32 0x00000000#32) a = 0 := fun _ => Ideal.ofBits_zero_f32
  rw [window_sum (n := 4095) (N := 4096) (by norm_num) x _ hz]
  rfl

end Cert.Cumsum

end
-- ==== Proof.Array.lean ====
/- What the kernel's result array holds at the end, at the extended reals: the cumulative sum of the argument, when no element
   of the argument is `⊤`. -/
module

public import proofs.«01_k».proof.Proof.Block
public import proofs.«01_k».proof.Proof.RefValue
public import proofs.«01_k».proof.Proof.Gen.KernelIdeal.Value

@[expose] public section

set_option maxRecDepth 16384

noncomputable section

namespace Cert.KernelIdeal.Cumsum

open Idealize.ShloMosaic Idealize.ShloMosaic.TcCoe Cert.KernelIdeal Cert.KernelIdeal.Gen
open Cert.Cumsum (column runningSum)

variable (m : (ℓ : Loc nD τ sig) → Buf (Elt Ideal) ℓ)

/-- At every grid point the input block is the point's batch, all rows, the point's stripe of columns. -/
theorem index_in : ∀ t : Fin cfg0.N, win0_0.index t = ![(grid0.coords t 0).val, 0, (grid0.coords t 1).val] :=
  (by decide +kernel : ∀ t : Fin grid0.N, _)

/-- The output block lies at the same place. -/
theorem index_out : ∀ t : Fin cfg0.N, win0_1.index t = ![(grid0.coords t 0).val, 0, (grid0.coords t 1).val] :=
  (by decide +kernel : ∀ t : Fin grid0.N, _)

/-- A block whose column `y 2` is the array's column through `j`, and whose row `y 1` is the array's row, has there the
    array's cumulative sum. -/
theorem below_eq (w : FVec Ideal S1x4096x256 .f32) (x : FVec Ideal S4x4096x2048 .f32) (y : S1x4096x256.Idx)
    (j : S4x4096x2048.Idx) (h1 : (y 1 : ℕ) = j 1) (hw : ∀ i : Fin 4096, w (ix3 0 i (y 2)) = x (ix3 (j 0) i (j 2))) :
    below w ((y 1 : ℕ) + 1) (y 2) = runningSum x j := by
  unfold below runningSum
  rw [h1]
  refine Finset.sum_congr rfl fun i _ => ?_
  unfold col column
  split
  · exact hw _
  · rfl

/-- The result array ends holding the cumulative sum of the argument. -/
theorem final_eq (c : Dev nD) (hx : ∀ i, m ((c : Thread nD τ).loc main_arg0) i ≠ (⊤ : EReal)) :
    (dats m 0 c).arrAt 1 cfg0.N = runningSum (m ((c : Thread nD τ).loc main_arg0)) := by
  refine (dats m 0 c).arrAt_eq_of_covers 1 _ (by decide +kernel) fun t hf y => ?_
  blk_simp
  rw [after0_1, block_eq _ (fun i => ?_)]
  · refine below_eq _ _ _ _ ?_ fun i => ?_
    · blk_simp [index_out]
    · blk_simp [iblk]
      refine congrArg (m ((c : Thread nD τ).loc main_arg0)) ?_
      blk_ext [index_in, index_out]
  · blk_simp [iblk]
    exact hx _

end Cert.KernelIdeal.Cumsum

end
-- ==== Proof.Finite.lean ====
/- What the precondition says, at the extended reals: no element of the argument is `⊤`. -/
module

public import proofs.«01_k».proof.Proof.Gen.Pre_below_inf
public import Idealize.ShloMosaic.Lib.Pointwise

@[expose] public section

set_option maxRecDepth 16384

noncomputable section

namespace Cert.Cumsum

open Idealize.ShloMosaic

/-- An array whose every element compares below plus infinity has no element `⊤`. -/
theorem ne_top_of_below_inf [Cert.Pre_below_inf.Facts] (x : FVec Ideal Cert.Pre_below_inf.S4x4096x2048 .f32)
    (h : Cert.Pre_below_inf.fn x = fun _ => 1#1) (i : Cert.Pre_below_inf.S4x4096x2048.Idx) : x i ≠ (⊤ : EReal) := by
  intro htop
  have hi := congrFun h i
  revert hi
  unfold Cert.Pre_below_inf.fn
  show Ideal.cmp .olt (x i) (Ideal.ofBits .f32 0x7F800000#32) ≠ 1#1
  rw [htop]
  simp [Ideal.cmp]

end Cert.Cumsum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_below_inf
public import proofs.«01_k».proof.Proof.Array
public import proofs.«01_k».proof.Proof.RefValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, and its argument ends unchanged. -/
theorem frame_kernel : Cert.quiescent_Kernel (hKernel := Cert.Kernel.Gen.facts) :=
  fun m ρ _ => Cert.Kernel.Gen.frame m ρ

/-- The kernel at the extended reals runs, and its argument ends unchanged. -/
theorem frame_kernel_ideal : Cert.quiescent_KernelIdeal (hKernelIdeal := Cert.KernelIdeal.Gen.facts) :=
  fun m ρ _ => Cert.KernelIdeal.Gen.frame m ρ

/-- The reference at the extended reals runs, and its argument ends unchanged (it has no counter). -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- The kernel's result at the extended reals is the reference's: both are the cumulative sum of the argument. -/
theorem values_agree : Cert.algebraic_KernelIdeal_ReferenceIdeal_pre_below_inf (hKernelIdeal := Cert.KernelIdeal.Gen.facts)
    (hReferenceIdeal := Cert.ReferenceIdeal.Gen.facts) (hPre_below_inf := Cert.Pre_below_inf.Gen.facts) := by
  intro m ρ m' ρ' hpre hagree
  refine ⟨fun c => Cert.Cumsum.runningSum (m ((c.tc : Thread _ Cert.KernelIdeal.τ).loc Cert.KernelIdeal.main_arg0)), ?_, ?_⟩
  · refine (θ_run Cert.KernelIdeal.defs _ _).mono (fun r h c => ⟨(h c).1.trans ?_, (h c).2⟩) (Cert.KernelIdeal.Value.run_blocks m ρ)
    exact Cert.KernelIdeal.Cumsum.final_eq m c (Cert.Cumsum.ne_top_of_below_inf _ (hpre c))
  · refine (θ_run Cert.ReferenceIdeal.defs _ _).mono (fun r h c => ⟨(h c).1.trans ?_, (h c).2⟩) (Cert.ReferenceIdeal.Value.run m' ρ')
    rw [hagree c]
    exact Cert.Cumsum.reference_eq _

/-- Everything claimed: the three runs, the idealization, and the equality of the results. -/
theorem claim : Cert.Claim :=
  ⟨Cert.Kernel.Gen.facts, Cert.KernelIdeal.Gen.facts, Cert.ReferenceIdeal.Gen.facts, Cert.Pre_below_inf.Gen.facts,
    frame_kernel, frame_kernel_ideal, fun m ρ _ => Cert.KernelIdeal.Gen.frame m ρ, frame_reference,
    fun m ρ _ => frame_reference m ρ trivial, trivial, values_agree⟩

end Cert.Proof

end
